-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024 : Shape := ⟨1, ![1024]⟩
abbrev S1x1024 : Shape := ⟨2, ![1, 1024]⟩
abbrev S30522x1024 : Shape := ⟨2, ![30522, 1024]⟩
abbrev S768x1024 : Shape := ⟨2, ![768, 1024]⟩
abbrev S1024x30522 : Shape := ⟨2, ![1024, 30522]⟩

abbrev nBuf : Space → Nat
  | .hbm => 4
  | .vmem => 3
  | .smem => 0
  | _ => 0

abbrev bufTy : (tb : Table) → Fin (tcTables nBuf tb) → BufTy
  | .hbm, ⟨0, _⟩ => ⟨S1024, .i32⟩
  | .hbm, ⟨1, _⟩ => ⟨S1x1024, .i32⟩
  | .hbm, ⟨2, _⟩ => ⟨S30522x1024, .i32⟩
  | .hbm, ⟨3, _⟩ => ⟨S1024x30522, .i32⟩
  | .local _ .vmem, ⟨0, _⟩ => ⟨S1x1024, .i32⟩
  | .local _ .vmem, ⟨1, _⟩ => ⟨S768x1024, .i32⟩
  | .local _ .vmem, ⟨2, _⟩ => ⟨S768x1024, .i32⟩
  | _, _ => ⟨S1024, .i32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_sem0_0 : DmaSem sig := 0
abbrev cc0_sem1_0 : DmaSem sig := 1
abbrev cc0_sem1_1 : DmaSem sig := 2

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1024 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S768x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S1024 : Shape := ⟨1, ![1024]⟩
abbrev S1024x1 : Shape := ⟨2, ![1024, 1]⟩
abbrev S30522 : Shape := ⟨1, ![30522]⟩
abbrev S1x30522 : Shape := ⟨2, ![1, 30522]⟩
abbrev S1024x30522 : Shape := ⟨2, ![1024, 30522]⟩

abbrev nBuf : Space → Nat
  | .hbm => 8
  | .vmem => 0
  | .smem => 0
  | _ => 0

abbrev bufTy : (tb : Table) → Fin (tcTables nBuf tb) → BufTy
  | .hbm, ⟨0, _⟩ => ⟨S1024, .i32⟩
  | .hbm, ⟨1, _⟩ => ⟨S1024x1, .i32⟩
  | .hbm, ⟨2, _⟩ => ⟨S30522, .i32⟩
  | .hbm, ⟨3, _⟩ => ⟨S1x30522, .i32⟩
  | .hbm, ⟨4, _⟩ => ⟨S1024x30522, .i32⟩
  | .hbm, ⟨5, _⟩ => ⟨S1024x30522, .i32⟩
  | .hbm, ⟨6, _⟩ => ⟨S1024x30522, .i1⟩
  | .hbm, ⟨7, _⟩ => ⟨S1024x30522, .i32⟩
  | _, _ => ⟨S1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩

abbrev nD : Nat := 1
abbrev τ : Topo := Topo.v7x

variable {F : FTy → Type} [FloatOps F]
-- ==== Proof.OneHot.lean ====
/-
  The one-hot matrix as mathematics, and what each side's arithmetic gives of it at one index.

  `hit x k` is the entry for a class index `x` and the class number `k`: the word 1 if the word `x` is the word of `k`,
  the word 0 otherwise. The kernel's block payload and the reference's composed term are both read as `hit` here.
-/
module

public import proofs.«01_k».proof.Proof.Gen.KernelIdeal.Skeleton
public import proofs.«01_k».proof.Proof.Gen.ReferenceIdeal
public import Idealize.ShloMosaic.Lib.Pipeline.ValueKit
public import Idealize.ShloMosaic.Lib.Pointwise

@[expose] public section

set_option maxRecDepth 16384

noncomputable section

namespace Cert.OneHot

open Idealize.ShloMosaic

/-- The entry of the one-hot encoding at a class index `x` and class number `k`: 1 where they are the same word, else 0. -/
def hit (x : BitVec 32) (k : Nat) : BitVec 32 := if x = BitVec.ofNat 32 k then 1#32 else 0#32

/-- An equality comparison widened to 32 bits is 1 or 0 as the two words agree. -/
theorem extui_cmpi_eq (x y : BitVec 32) : (IntOp.cmpi .eq x y).setWidth 32 = if x = y then 1#32 else 0#32 := by
  by_cases h : x = y
  · subst h; simp [IntOp.cmpi]
  · simp [IntOp.cmpi, h, beq_eq_false_iff_ne.mpr h]

/-- The class number that the kernel computes at row `r` of block `b`, in words: `r + b * 768`. -/
theorem class_word (r b : Nat) :
    BitVec.ofNat 32 r + BitVec.ofNat 32 b * 768#32 = BitVec.ofNat 32 (b * 768 + r) := by
  rw [show (768#32 : BitVec 32) = BitVec.ofNat 32 768 from rfl, ← BitVec.ofNat_mul, ← BitVec.ofNat_add, Nat.add_comm]

section Kernel
open Cert.KernelIdeal Cert.KernelIdeal.Gen

/-- The kernel's block at grid point `i`, at row `r` and column `q`: the entry of the `q`-th class index at the class
    `768 i + r`. -/
theorem payload_apply (i : grid0.Coords) (v : Vec Ideal S1x1024 .i32) (y : S768x1024.Idx) :
    k0_pay1 i v y = hit (v (ix2 (0 : Fin 1) (y 1))) ((i 0 : Nat) * 768 + (y 0 : Nat)) := by
  unfold k0_pay1 hit
  rw [← class_word, ← extui_cmpi_eq]
  pointwise
  rfl

end Kernel

section Reference
open Cert.ReferenceIdeal Cert.ReferenceIdeal.Gen

/-- The reference's result at row `q` and class `k`. -/
theorem reference_apply (x : Vec Ideal S1024 .i32) (j : S1024x30522.Idx) :
    (extui 32 (cmpi .eq
        (broadcastInDim S1024x30522 ![0, 1] bcast_S1024x1_S1024x30522_0_1 (broadcastInDim S1024x1 ![0] bcast_S1024_S1024x1_0 x))
        (broadcastInDim S1024x30522 ![0, 1] bcast_S1x30522_S1024x30522_0_1
          (broadcastInDim S1x30522 ![1] bcast_S30522_S1x30522_1 (iotaInDim S30522 32 0)))) natLt_1_32 : IVec S1024x30522 32) j
      = hit (x (ix1 (j 0))) (j 1 : Nat) := by
  unfold hit
  rw [← extui_cmpi_eq]
  pointwise

end Reference

end Cert.OneHot

end
-- ==== Proof.Result.lean ====
/-
  What the kernel's program leaves in its result: the array that the pallas_call writes is the transposed one-hot
  matrix, block of 768 classes by block, the last block cut at class 30522; the host's transpose turns it round.
-/
module

public import proofs.«01_k».proof.Proof.OneHot
public import proofs.«01_k».proof.Proof.Gen.KernelIdeal.Frame
public import Idealize.ShloMosaic.Lib.StableHlo.Run

@[expose] public section

set_option maxRecDepth 16384

noncomputable section

namespace Cert.OneHot.Kernel

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- Device `c`'s class indices, as launched. -/
abbrev classes (c : Dev nD) : Vec Ideal S1024 .i32 := m ((c.tc : Thread nD τ).loc main_arg0)

/-- The index of the output window's block at each point: the point, along the classes. -/
theorem index_out : ∀ t : Fin cfg0.N, win0_1.index t = ![(grid0.coords t 0).val, 0] :=
  (by decide +kernel : ∀ t : Fin grid0.N, win0_1.index t = ![(grid0.coords t 0).val, 0])

/-- The input window's one block, the whole row of class indices, at every point. -/
theorem index_in : ∀ t : Fin cfg0.N, win0_0.index t = ![0, 0] :=
  (by decide +kernel : ∀ t : Fin grid0.N, win0_0.index t = ![0, 0])

/-- The row that the region finds: the class indices, reshaped to one row. -/
theorem entry_row (c : Dev nD) :
    V m c main_v0 = shapeCast S1x1024 (classes m c) shapeCasts_S1024_S1x1024 := by
  show StableHlo.after (List.flatten [hostOps0]) (fun b => m (c, b)) (Proc.tc.devRef main_v0) = _
  simp only [List.flatten_cons, List.flatten_nil, List.append_nil]
  after_results
  rfl

/-- The block that the kernel reads at any point, at column `q`: the `q`-th class index (the host lays the indices out
    as one row). -/
theorem block_in (c : Dev nD) (t : Fin cfg0.N) (q : Fin 1024) :
    iblk m c 0 t (ix2 (0 : Fin 1) q) = classes m c (ix1 q) := by
  have hp : (win0_0.blk t).view.emb (ix2 (0 : Fin 1) q) = (ix2 (0 : Fin 1) q : S1x1024.Idx) := by
    funext a
    fin_cases a <;> refine Fin.ext ?_ <;> blk_simp [index_in t]
  blk_simp [iblk]
  rw [entry_row, hp]
  pointwise

/-- The pallas_call's array after the run: at class `k` and position `q`, whether the `q`-th index is `k`. -/
theorem array_final (c : Dev nD) :
    (dats m 0 c).arrAt 1 cfg0.N = fun j : S30522x1024.Idx => hit (classes m c (ix1 (j 1))) (j 0 : Nat) := by
  refine (dats m 0 c).arrAt_eq_of_covers 1 _ (by decide +kernel) fun t hf y => ?_
  blk_simp
  rw [after0_1]
  frame_out
  rw [payload_apply]
  have h0 : (((win0 1).xinj (grid0.coords t) y 0 : Fin 768) : Nat) = (y 0 : Nat) := rfl
  have h1 : ((win0 1).xinj (grid0.coords t) y 1 : Fin 1024) = ((View.whole main_v1).slice (win0_1.rect t)).emb y 1 := by
    refine Fin.ext ?_
    blk_simp [index_out t]
  refine congrArg₂ hit ((block_in m c t _).trans ?_) ?_
  · exact congrArg (fun q => classes m c (ix1 q)) h1
  · rw [h0, index_out t]
    rfl

/-- The result after the host's transpose: at position `q` and class `k`, whether the `q`-th index is `k`. -/
theorem result_final (c : Dev nD) :
    Pipeline.afterTail₀ cfgs (dats m) 0 (V0 m) [hostOps1] c main_v2
      = fun j : S1024x30522.Idx => hit (classes m c (ix1 (j 0))) (j 1 : Nat) := by
  unfold Pipeline.afterTail₀
  simp only [List.flatten_cons, List.flatten_nil, List.append_nil]
  after_results
  rw [Pipeline.withArrays_arr _ launch0.win.arr_inj c _ _ 1, array_final]
  funext j
  pointwise

/-- The run, read: the result is the one-hot matrix of the argument, and the argument is unchanged. -/
theorem run : θ_run defs (onTc (τ := τ) (main (F := Ideal))) ⟨m, fun _ => 0, ρ⟩ fun r => ∀ c : Dev nD,
      r.2.mem ((c.tc : Thread nD τ).loc main_v2)
        = (fun j : S1024x30522.Idx => hit (classes m c (ix1 (j 0))) (j 1 : Nat))
      ∧ r.2.mem ((c.tc : Thread nD τ).loc main_arg0) = m ((c.tc : Thread nD τ).loc main_arg0) :=
  (θ_run defs _ _).mono
    (fun _ h c => ⟨((h c).2 main_v2 (Pipeline.mem_restRefs_of main_v2 (by decide) (by decide))).trans (result_final m c),
      ((h c).2 main_arg0 (Pipeline.mem_restRefs_of main_arg0 (by decide) (by decide))).trans (W_main_arg0 m (dats m) c)⟩)
    (run_main m ρ)

end Cert.OneHot.Kernel

end
-- ==== Proof.lean ====
/-
  The proof of `Cert.Claim`: the one-hot kernel and its idealization run, leave their argument unchanged and every
  semaphore counter at zero; the idealization rewrote nothing; and over the extended reals kernel and reference end
  with the same matrix, the one-hot encoding of the argument (Proof/OneHot.lean, Proof/Result.lean).
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.OneHot
public import proofs.«01_k».proof.Proof.Result
public import Idealize.ShloMosaic.Adequacy
public import Idealize.ShloMosaic.Init

@[expose] public section

noncomputable section

namespace Cert.Proof

open Idealize.ShloMosaic Idealize.SL.Sem

/-- The kernel's frame: it runs, its argument is unchanged, every semaphore counter ends at zero. -/
theorem frame_kernel : Cert.quiescent_Kernel := fun m ρ _ => Cert.Kernel.Gen.frame m ρ

/-- The idealized kernel's frame. -/
theorem frame_ideal : Cert.quiescent_KernelIdeal := fun m ρ _ => Cert.KernelIdeal.Gen.frame m ρ

/-- The reference's frame: its host operations write none of its arguments, and it has no semaphore. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- Kernel and reference end with the same matrix: at position `q` and class `k` both hold whether the `q`-th class
    index is `k`. -/
theorem same_matrix : Cert.algebraic_KernelIdeal_ReferenceIdeal := by
  intro m ρ m' ρ' _ hagree
  refine ⟨_, Cert.OneHot.Kernel.run m ρ, ?_⟩
  refine (θ_run Cert.ReferenceIdeal.defs _ _).mono (fun _ h c => ⟨(h c).1.trans ?_, (h c).2⟩)
    (Cert.ReferenceIdeal.Value.run (F := Ideal) m' ρ')
  funext j
  rw [hagree c]
  exact Cert.OneHot.reference_apply _ j

theorem claim : Cert.Claim :=
  ⟨Cert.Kernel.Gen.facts, Cert.KernelIdeal.Gen.facts, Cert.ReferenceIdeal.Gen.facts,
    frame_kernel, frame_ideal, frame_reference, trivial, same_matrix⟩

end Cert.Proof

end
